-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_s0_nonneg [hPre_s0_nonneg : Cert.Pre_s0_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_s0_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_s0_nonneg [hPre_s0_nonneg : Cert.Pre_s0_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_s0_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_s0_nonneg [hKernelIdeal : Cert.KernelIdeal.Facts] [hPre_s0_nonneg : Cert.Pre_s0_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_s0_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_s0_nonneg [hReferenceIdeal : Cert.ReferenceIdeal.Facts] [hPre_s0_nonneg : Cert.Pre_s0_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_s0_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_s0_nonneg [hKernelIdeal : Cert.KernelIdeal.Facts] [hReferenceIdeal : Cert.ReferenceIdeal.Facts] [hPre_s0_nonneg : Cert.Pre_s0_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_s0_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_s0_nonneg : Cert.Pre_s0_nonneg.Facts),
    quiescent_Kernel (hKernel := hKernel)
    ∧ quiescent_KernelIdeal (hKernelIdeal := hKernelIdeal)
    ∧ quiescent_KernelIdeal_pre_s0_nonneg (hKernelIdeal := hKernelIdeal) (hPre_s0_nonneg := hPre_s0_nonneg)
    ∧ quiescent_ReferenceIdeal (hReferenceIdeal := hReferenceIdeal)
    ∧ quiescent_ReferenceIdeal_pre_s0_nonneg (hReferenceIdeal := hReferenceIdeal) (hPre_s0_nonneg := hPre_s0_nonneg)
    ∧ preserves_Kernel_KernelIdeal
    ∧ algebraic_KernelIdeal_ReferenceIdeal_pre_s0_nonneg (hKernelIdeal := hKernelIdeal) (hReferenceIdeal := hReferenceIdeal) (hPre_s0_nonneg := hPre_s0_nonneg)
-- ==== Pre_s0_nonneg.lean ====
abbrev S16384x16 : Shape := ⟨2, ![16384, 16]⟩
abbrev S_ : Shape := ⟨0, ![]⟩

class Facts : Prop where
  bcast_S_S16384x16 : S_.BroadcastsInDim S16384x16 (![] : Fin 0 → Fin S16384x16.rank)

variable [Facts]

def fn {F : FTy → Type} [FloatOps F] (main_arg0 : FVec F S16384x16 .f32) (main_arg1 : FVec F S16384x16 .f32) (main_arg2 : FVec F S16384x16 .f32) : IVec S16384x16 1 :=
  let main_cst : FVec F S_ .f32 := constant S_ .f32 0x00000000#32
  let main_v0 : FVec F S16384x16 .f32 := broadcastInDim S16384x16 ![] bcast_S_S16384x16 main_cst
  let main_v1 : IVec S16384x16 1 := cmpf .oge main_arg1 main_v0
  main_v1
-- ==== Kernel.lean ====
abbrev S16384x16 : Shape := ⟨2, ![16384, 16]⟩
abbrev S176x16 : Shape := ⟨2, ![176, 16]⟩
abbrev S1x16384 : Shape := ⟨2, ![1, 16384]⟩
abbrev S4096x16 : Shape := ⟨2, ![4096, 16]⟩
abbrev S1x4096 : Shape := ⟨2, ![1, 4096]⟩
abbrev S176x4096 : Shape := ⟨2, ![176, 4096]⟩
abbrev S16x4096 : Shape := ⟨2, ![16, 4096]⟩
abbrev S4096 : Shape := ⟨1, ![4096]⟩
abbrev S16x16 : Shape := ⟨2, ![16, 16]⟩
abbrev S16384 : Shape := ⟨1, ![16384]⟩

abbrev nBuf : Space → Nat
  | .hbm => 9
  | .vmem => 12
  | .smem => 0
  | _ => 0

abbrev bufTy : (tb : Table) → Fin (tcTables nBuf tb) → BufTy
  | .hbm, ⟨0, _⟩ => ⟨S16384x16, .f32⟩
  | .hbm, ⟨1, _⟩ => ⟨S16384x16, .f32⟩
  | .hbm, ⟨2, _⟩ => ⟨S16384x16, .f32⟩
  | .hbm, ⟨3, _⟩ => ⟨S176x16, .f32⟩
  | .hbm, ⟨4, _⟩ => ⟨S176x16, .f32⟩
  | .hbm, ⟨5, _⟩ => ⟨S16384x16, .f32⟩
  | .hbm, ⟨6, _⟩ => ⟨S16384x16, .f32⟩
  | .hbm, ⟨7, _⟩ => ⟨S1x16384, .f32⟩
  | .hbm, ⟨8, _⟩ => ⟨S16384, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S176x16, .f32⟩
  | .local _ .vmem, ⟨5, _⟩ => ⟨S176x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S1x4096, .f32⟩
  | .local _ .vmem, ⟨11, _⟩ => ⟨S1x4096, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S176x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S176x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x16 : Shape := ⟨2, ![16384, 16]⟩
abbrev S16x16 : Shape := ⟨2, ![16, 16]⟩
abbrev S16x16x16 : Shape := ⟨3, ![16, 16, 16]⟩
abbrev S1 : Shape := ⟨1, ![1]⟩
abbrev S_ : Shape := ⟨0, ![]⟩
abbrev S16384x16x16 : Shape := ⟨3, ![16384, 16, 16]⟩
abbrev S1x16x16 : Shape := ⟨3, ![1, 16, 16]⟩
abbrev S16384x16x1 : Shape := ⟨3, ![16384, 16, 1]⟩
abbrev S16384x16x3 : Shape := ⟨3, ![16384, 16, 3]⟩
abbrev S1x1 : Shape := ⟨2, ![1, 1]⟩
abbrev S16384x1x16 : Shape := ⟨3, ![16384, 1, 16]⟩
abbrev S16384x3 : Shape := ⟨2, ![16384, 3]⟩
abbrev S16384 : Shape := ⟨1, ![16384]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S16384x16, .f32⟩
  | .hbm, ⟨2, _⟩ => ⟨S16384x16, .f32⟩
  | .hbm, ⟨3, _⟩ => ⟨S16x16, .f32⟩
  | .hbm, ⟨4, _⟩ => ⟨S16x16x16, .f32⟩
  | .hbm, ⟨5, _⟩ => ⟨S1, .i32⟩
  | .hbm, ⟨6, _⟩ => ⟨S_, .f32⟩
  | .hbm, ⟨7, _⟩ => ⟨S16384x16, .f32⟩
  | .hbm, ⟨8, _⟩ => ⟨S16384x16, .f32⟩
  | .hbm, ⟨9, _⟩ => ⟨S16384x16, .f32⟩
  | .hbm, ⟨10, _⟩ => ⟨S16384x16x16, .f32⟩
  | .hbm, ⟨11, _⟩ => ⟨S16384x16x16, .f32⟩
  | .hbm, ⟨12, _⟩ => ⟨S1x16x16, .f32⟩
  | .hbm, ⟨13, _⟩ => ⟨S16384x16x16, .f32⟩
  | .hbm, ⟨14, _⟩ => ⟨S16384x16x16, .f32⟩
  | .hbm, ⟨15, _⟩ => ⟨S16384x16x1, .f32⟩
  | .hbm, ⟨16, _⟩ => ⟨S16384x16x16, .f32⟩
  | .hbm, ⟨17, _⟩ => ⟨S16384x16x16, .f32⟩
  | .hbm, ⟨18, _⟩ => ⟨S16384x16x16, .f32⟩
  | .hbm, ⟨19, _⟩ => ⟨S16384x16x3, .f32⟩
  | .hbm, ⟨20, _⟩ => ⟨S16384x16x3, .i32⟩
  | .hbm, ⟨21, _⟩ => ⟨S_, .f32⟩
  | .hbm, ⟨22, _⟩ => ⟨S16384x16, .f32⟩
  | .hbm, ⟨23, _⟩ => ⟨S_, .i32⟩
  | .hbm, ⟨24, _⟩ => ⟨S1, .i32⟩
  | .hbm, ⟨25, _⟩ => ⟨S1, .i1⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S1, .i32⟩
  | .hbm, ⟨30, _⟩ => ⟨S1x1, .i32⟩
  | .hbm, ⟨31, _⟩ => ⟨S1, .i32⟩
  | .hbm, ⟨32, _⟩ => ⟨S_, .i32⟩
  | .hbm, ⟨33, _⟩ => ⟨S1x1, .i32⟩
  | .hbm, ⟨34, _⟩ => ⟨S1x1, .i1⟩
  | .hbm, ⟨35, _⟩ => ⟨S1x1, .i32⟩
  | .hbm, ⟨36, _⟩ => ⟨S1x1, .i1⟩
  | .hbm, ⟨37, _⟩ => ⟨S1x1, .i1⟩
  | .hbm, ⟨38, _⟩ => ⟨S_, .i1⟩
  | .hbm, ⟨39, _⟩ => ⟨S1, .i1⟩
  | .hbm, ⟨40, _⟩ => ⟨S16384x1x16, .f32⟩
  | .hbm, ⟨41, _⟩ => ⟨S16384x1x16, .i1⟩
  | .hbm, ⟨42, _⟩ => ⟨S_, .f32⟩
  | .hbm, ⟨43, _⟩ => ⟨S16384x1x16, .f32⟩
  | .hbm, ⟨44, _⟩ => ⟨S16384x1x16, .f32⟩
  | .hbm, ⟨45, _⟩ => ⟨S16384x16, .f32⟩
  | .hbm, ⟨46, _⟩ => ⟨S16384x3, .f32⟩
  | .hbm, ⟨47, _⟩ => ⟨S16384x3, .i32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x16, .f32⟩
  | .hbm, ⟨57, _⟩ => ⟨S16384x16, .f32⟩
  | .hbm, ⟨58, _⟩ => ⟨S_, .f32⟩
  | .hbm, ⟨59, _⟩ => ⟨S16384x16, .f32⟩
  | .hbm, ⟨60, _⟩ => ⟨S16384x16, .f32⟩
  | .hbm, ⟨61, _⟩ => ⟨S16384x16, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v12 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v13 : Ref sig .tc := ⟨.hbm, 44, rfl⟩
abbrev main_v14 : Ref sig .tc := ⟨.hbm, 45, rfl⟩
abbrev main_values_3 : Ref sig .tc := ⟨.hbm, 46, rfl⟩
abbrev main_indices_4 : Ref sig .tc := ⟨.hbm, 47, rfl⟩
abbrev main_cst_5 : Ref sig .tc := ⟨.hbm, 48, rfl⟩
abbrev main_v15 : Ref sig .tc := ⟨.hbm, 49, rfl⟩
abbrev main_cst_6 : Ref sig .tc := ⟨.hbm, 50, rfl⟩
abbrev main_v16 : Ref sig .tc := ⟨.hbm, 51, rfl⟩
abbrev main_v17 : Ref sig .tc := ⟨.hbm, 52, rfl⟩
abbrev main_cst_7 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_8 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== Proof.TopThree.lean ====
/- The three greatest values of a list, kept by insertion: how the running triple is updated, that the order of the
   values does not matter, that further zeros change nothing, and that the triple of a list's values is the first
   three of the list sorted. -/
module

public import Mathlib.Data.EReal.Basic
public import Mathlib.Data.List.OfFn
public import Idealize.ShloMosaic.PureOps.Ideal
public import Idealize.ShloMosaic.Lib.SortFacts

@[expose] public section

noncomputable section

namespace Cert.TopThree

open Idealize.ShloMosaic

/-- A running triple (greatest, second, third) takes in one more value. -/
def push (t : EReal × EReal × EReal) (v : EReal) : EReal × EReal × EReal :=
  (max t.1 v, max t.2.1 (min t.1 v), max t.2.2 (min t.2.1 (min t.1 v)))

/-- Taking in two values gives the same triple in either order. -/
theorem push_comm (t : EReal × EReal × EReal) (v w : EReal) : push (push t v) w = push (push t w) v := by
  obtain ⟨a, b, c⟩ := t
  simp only [push, Prod.mk.injEq]
  refine ⟨?_, ?_, ?_⟩ <;>
  · refine eq_of_forall_le_iff fun x => ?_
    simp only [le_max_iff, le_min_iff]
    tauto

/-- Two insertions may change places, as folds over rearranged lists ask. -/
instance : RightCommutative push := ⟨push_comm⟩

/-- The triple of a list of values, started at a floor. -/
def top (lo : EReal) (l : List EReal) : EReal × EReal × EReal := l.foldl push (lo, lo, lo)

/-- The sum of a triple. -/
def total (t : EReal × EReal × EReal) : EReal := t.1 + t.2.1 + t.2.2

/-- The triple depends on the values only, not on their order. -/
theorem top_perm (lo : EReal) {l l' : List EReal} (h : l.Perm l') : top lo l = top lo l' := h.foldl_eq _

/-- The first two values above the floor, in order of size, with the floor third. -/
theorem push_two {lo a b : EReal} (ha : lo ≤ a) (hb : lo ≤ b) : push (push (lo, lo, lo) a) b = (max a b, min a b, lo) := by
  simp [push, ha, hb]

/-- A value not above the third of a descending triple changes nothing. -/
theorem push_of_le {a b c v : EReal} (hv : v ≤ c) (hc : c ≤ b) (hb : b ≤ a) : push (a, b, c) v = (a, b, c) := by
  have h1 := hv.trans hc
  have h2 := h1.trans hb
  simp [push, hv, h1, h2]

/-- Values not above the third of a descending triple change nothing. -/
theorem foldl_push_of_le {a b c : EReal} (hc : c ≤ b) (hb : b ≤ a) (l : List EReal) (hl : ∀ v ∈ l, v ≤ c) :
    l.foldl push (a, b, c) = (a, b, c) := by
  induction l with
  | nil => rfl
  | cons v l ih =>
    rw [List.foldl_cons, push_of_le (hl v List.mem_cons_self) hc hb]
    exact ih fun w hw => hl w (List.mem_cons_of_mem v hw)

/-- A list that starts with its three greatest values in descending order has those three as its triple. -/
theorem top_of_sorted {lo a b c : EReal} (h : lo ≤ c) (hc : c ≤ b) (hb : b ≤ a) (l : List EReal) (hl : ∀ v ∈ l, v ≤ c) :
    top lo (a :: b :: c :: l) = (a, b, c) := by
  have h1 := h.trans hc
  have h2 := h1.trans hb
  have h3 := hc.trans hb
  unfold top
  rw [List.foldl_cons, List.foldl_cons, List.foldl_cons, push_two h2 h1]
  rw [show push (max a b, min a b, lo) c = (a, b, c) by simp [push, hb, h, hc, h3]]
  exact foldl_push_of_le hc hb l hl

/-- No value of the triple is negative. -/
def Nonneg (t : EReal × EReal × EReal) : Prop := 0 ≤ t.1 ∧ 0 ≤ t.2.1 ∧ 0 ≤ t.2.2

/-- Taking in a value keeps a triple without negative values so. -/
theorem Nonneg.push {t : EReal × EReal × EReal} (h : Nonneg t) (v : EReal) : Nonneg (push t v) :=
  ⟨le_max_of_le_left h.1, le_max_of_le_left h.2.1, le_max_of_le_left h.2.2⟩

/-- Taking in several values keeps a triple without negative values so. -/
theorem Nonneg.foldl {t : EReal × EReal × EReal} (h : Nonneg t) (l : List EReal) : Nonneg (l.foldl TopThree.push t) := by
  induction l generalizing t with
  | nil => exact h
  | cons v l ih => exact ih (h.push v)

/-- Zeros change nothing in a triple without negative values. -/
theorem Nonneg.zeros {t : EReal × EReal × EReal} (h : Nonneg t) (n : Nat) :
    (List.replicate n (0 : EReal)).foldl TopThree.push t = t := by
  induction n with
  | zero => rfl
  | succ n ih =>
    rw [List.replicate_succ, List.foldl_cons]
    rw [show TopThree.push t 0 = t by obtain ⟨a, b, c⟩ := t; obtain ⟨ha, hb, hc⟩ := h; simp_all [TopThree.push]]
    exact ih

/-- The triple of three or more values, none negative, has no negative value. -/
theorem nonneg_top {lo a b c : EReal} (hlo : lo ≤ 0) (ha : 0 ≤ a) (hb : 0 ≤ b) (hc : 0 ≤ c) (l : List EReal) :
    Nonneg (top lo (a :: b :: c :: l)) := by
  unfold top
  rw [List.foldl_cons, List.foldl_cons, List.foldl_cons, push_two (hlo.trans ha) (hlo.trans hb)]
  refine Nonneg.foldl ⟨?_, ?_, ?_⟩ l
  · simp [push, ha]
  · simp [push, ha, hb]
  · simp [push, ha, hb, hc]

/-- The comparison by which the host sorts in descending order. -/
def greater {n : Nat} (x : Fin n → EReal) (i j : Fin n) : Bool := Ideal.cmpTotal .gt (x i) (x j) == 1#1

/-- The comparison is the order of the extended reals. -/
theorem greater_eq {n : Nat} (x : Fin n → EReal) (i j : Fin n) : greater x i j = decide (x j < x i) := by
  unfold greater
  by_cases h : x j < x i <;> simp [Ideal.cmpTotal, Ideal.cmp, CmpDirection.ordered, h]

/-- The values in descending order. -/
def sorted {n : Nat} (x : Fin n → EReal) (k : Fin n) : EReal := x (sortedFrom (greater x) k)

/-- They do descend. -/
theorem sorted_le {n : Nat} (x : Fin n → EReal) {i j : Fin n} (h : i < j) : sorted x j ≤ sorted x i := by
  have := sortedFrom_noInversion (greater x) (greater x)
    (fun a b h => by simp only [greater_eq, decide_eq_true_eq, decide_eq_false_iff_not, not_lt] at h ⊢; exact h.le)
    (fun a b h => h)
    (fun a b c h h' => by
      simp only [greater_eq, decide_eq_false_iff_not, not_lt] at h h' ⊢
      exact h.trans h') i j h
  simpa only [greater_eq, decide_eq_false_iff_not, not_lt, sorted] using this

/-- They are the values, in another order. -/
theorem sorted_perm {n : Nat} (x : Fin n → EReal) : (List.ofFn (sorted x)).Perm (List.ofFn x) := by
  have e : Function.Bijective (sortedFrom (greater x)) := ⟨sortedFrom_injective _, sortedFrom_surjective _⟩
  have h : sorted x = x ∘ (Equiv.ofBijective _ e : Equiv.Perm (Fin n)) := funext fun k => rfl
  rw [h]
  exact Equiv.Perm.ofFn_comp_perm (Equiv.ofBijective _ e) x

/-- The triple of sixteen values above the floor is the first three of them in descending order. -/
theorem top_eq_sorted {lo : EReal} (x : Fin 16 → EReal) (h : ∀ i, lo ≤ x i) :
    top lo (List.ofFn x) = (sorted x 0, sorted x 1, sorted x 2) := by
  rw [← top_perm lo (sorted_perm x), List.ofFn_succ, List.ofFn_succ, List.ofFn_succ]
  refine top_of_sorted (h _) (sorted_le x (by decide)) (sorted_le x (by decide)) _ fun v hv => ?_
  obtain ⟨k, rfl⟩ := List.mem_ofFn.mp hv
  exact sorted_le x (by simp [Fin.lt_def])

/-- Eleven values, none negative, and five zeros, in any order, have the same three greatest as the eleven alone. -/
theorem top_eleven {lo : EReal} (hlo : lo ≤ 0) (x : Fin 16 → EReal) (v : Fin 11 → EReal) (hv : ∀ j, 0 ≤ v j)
    (σ : Equiv.Perm (Fin 16)) (hx : ∀ j : Fin 16, x (σ j) = if h : j.val < 11 then v ⟨j.val, h⟩ else 0) :
    top lo (List.ofFn v) = (sorted x 0, sorted x 1, sorted x 2) := by
  have hxn : ∀ i, lo ≤ x i := fun i => by
    rw [← σ.apply_symm_apply i, hx]
    split
    · exact hlo.trans (hv _)
    · exact hlo
  have hl : List.ofFn (x ∘ σ) = List.ofFn v ++ List.replicate 5 (0 : EReal) := by
    rw [← List.ofFn_const, ← List.ofFn_fin_append]
    refine List.ofFn_inj.mpr (funext fun j => ?_)
    rw [Function.comp, hx]
    rcases lt_or_ge j.val 11 with h | h
    · rw [dif_pos h]; exact (Fin.append_left v (fun _ : Fin 5 => (0 : EReal)) ⟨j.val, h⟩).symm
    · rw [dif_neg (by omega)]
      have := Fin.append_right v (fun _ : Fin 5 => (0 : EReal)) ⟨j.val - 11, by omega⟩
      refine this.symm.trans (congrArg _ (Fin.ext ?_))
      rw [Fin.val_natAdd]
      show 11 + (j.val - 11) = j.val
      omega
  rw [← top_eq_sorted x hxn, ← top_perm lo (Equiv.Perm.ofFn_comp_perm σ x), hl]
  have hn : Nonneg (top lo (List.ofFn v)) := by
    rw [List.ofFn_succ, List.ofFn_succ, List.ofFn_succ]
    exact nonneg_top hlo (hv _) (hv _) (hv _) _
  unfold top at hn ⊢
  rw [List.foldl_append]
  exact (hn.zeros 5).symm

end Cert.TopThree

end
-- ==== Proof.KernelBlock.lean ====
/- What the kernel computes on one block of 4096 rows, entry by entry, over the extended reals. -/
module

public import proofs.«01_k».proof.Proof.TopThree
public import proofs.«01_k».proof.Proof.Gen.KernelIdeal.Skeleton
public import Idealize.ShloMosaic.Lib.Pointwise

@[expose] public section

noncomputable section

namespace Cert.KernelBlock

open Idealize.ShloMosaic Cert.KernelIdeal Cert.KernelIdeal.Gen Cert.TopThree

section rows
variable {n : Nat} (cs : (⟨2, ![n, 16]⟩ : Shape).Idx → EReal) (nd pk : S176x16.Idx → EReal) (st : (⟨2, ![n, 16]⟩ : Shape).Idx → EReal)

/-- The weight of the proof in row `r` of the tables, for row `b` of the batch. -/
def proofAt (r : Fin 176) (b : Fin n) : EReal :=
  Ideal.exp (∑ p : Fin 16, nd (ix2 r p) * Ideal.log (cs (ix2 b p) + Ideal.ofBits .f32 0x2B8CBCCC#32))
    * ∑ s : Fin 16, pk (ix2 r s) * st (ix2 b s)

/-- The eleven proofs of state `t`. -/
def slab (t : Fin 16) (b : Fin n) (j : Fin 11) : EReal :=
  proofAt cs nd pk st ⟨j.val * 16 + t.val, by omega⟩ b

/-- The floor at which the kernel starts the third greatest. -/
abbrev floor : EReal := Ideal.ofBits .f32 0xBF800000#32

/-- The sum of the three greatest proofs of state `t`. -/
def sum3 (t : Fin 16) (b : Fin n) : EReal := total (top floor (List.ofFn (slab cs nd pk st t b)))

/-- The normalized weight of state `t`. -/
def nextAt (t : Fin 16) (b : Fin n) : EReal :=
  Ideal.div (sum3 cs nd pk st t b) ((∑ t' : Fin 16, sum3 cs nd pk st t' b) + Ideal.ofBits .f32 0x322BCC77#32)

/-- Its logarithm. -/
def logAt (t : Fin 16) (b : Fin n) : EReal := Ideal.log (nextAt cs nd pk st t b + Ideal.ofBits .f32 0x322BCC77#32)

end rows

variable (cs : Vec Ideal S4096x16 .f32) (nd pk : Vec Ideal S176x16 .f32) (st : Vec Ideal S4096x16 .f32)

/-- The kernel's 176 by 4096 array of proofs. -/
theorem proofs_apply (r : Fin 176) (b : Fin 4096) : k0_pay2 cs nd pk st (ix2 r b) = proofAt cs nd pk st r b := by
  unfold proofAt
  pointwise [k0_pay2, dot_S176x16_S4096x16_S176x4096_1_1_0_0_n_n]

/-- The kernel's unnormalized next state, from the proofs carried over from the first seven groups. -/
abbrev unnorm : FVec Ideal S16x4096 .f32 :=
  k0_pay29 (k0_pay2 cs nd pk st) (k0_pay24 cs nd pk st) (k0_pay26 cs nd pk st) (k0_pay27 cs nd pk st) (k0_pay28 cs nd pk st)

/-- One group of sixteen rows of the array of proofs. -/
theorem group_apply (t : Fin 16) (b : Fin 4096) (j : Fin 11) (o : Nat) (ho : o = j.val * 16) (h : o + t.val < 176) :
    k0_pay2 cs nd pk st (ix2 ⟨o + t.val, h⟩ b) = slab cs nd pk st t b j := by
  subst ho
  exact proofs_apply ..

/-- The first group of sixteen rows. -/
theorem group_zero (t : Fin 16) (b : Fin 4096) (h : t.val < 176) :
    k0_pay2 cs nd pk st (ix2 ⟨t.val, h⟩ b) = slab cs nd pk st t b 0 := by
  rw [proofs_apply]; unfold slab; simp

/-- The triple carried over from the first seven groups. -/
theorem carried (t : Fin 16) (b : Fin 4096) :
    (k0_pay24 cs nd pk st (ix2 t b), k0_pay26 cs nd pk st (ix2 t b), k0_pay27 cs nd pk st (ix2 t b))
      = [slab cs nd pk st t b 2, slab cs nd pk st t b 3, slab cs nd pk st t b 4, slab cs nd pk st t b 5, slab cs nd pk st t b 6].foldl push
        (max (slab cs nd pk st t b 0) (slab cs nd pk st t b 1), min (slab cs nd pk st t b 0) (slab cs nd pk st t b 1), floor) := by
  simp only [← group_zero cs nd pk st t b (by omega), ← group_apply cs nd pk st t b 1 16 rfl (by omega), ← group_apply cs nd pk st t b 2 32 rfl (by omega),
    ← group_apply cs nd pk st t b 3 48 rfl (by omega), ← group_apply cs nd pk st t b 4 64 rfl (by omega), ← group_apply cs nd pk st t b 5 80 rfl (by omega),
    ← group_apply cs nd pk st t b 6 96 rfl (by omega)]
  generalize hV : k0_pay2 cs nd pk st = V
  pointwise [k0_pay24, k0_pay26, k0_pay27, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22, k0_pay23, k0_pay25, push]
  simp only [hV]

/-- The last four groups, from a carried triple. -/
theorem finished (V : FVec Ideal S176x4096 .f32) (m1 m2 m3 s7 : FVec Ideal S16x4096 .f32) (t : Fin 16) (b : Fin 4096) :
    k0_pay29 V m1 m2 m3 s7 (ix2 t b) = total ([s7 (ix2 t b), V (ix2 ⟨128 + t.val, by omega⟩ b), V (ix2 ⟨144 + t.val, by omega⟩ b),
      V (ix2 ⟨160 + t.val, by omega⟩ b)].foldl push (m1 (ix2 t b), m2 (ix2 t b), m3 (ix2 t b))) := by
  pointwise [k0_pay29, push, total]

/-- Eleven values taken in one after the other, in three parts. -/
theorem top_chain (v : Fin 11 → EReal) (lo : EReal) :
    top lo (List.ofFn v) = [v 7, v 8, v 9, v 10].foldl push ([v 2, v 3, v 4, v 5, v 6].foldl push (push (push (lo, lo, lo) (v 0)) (v 1))) := by
  have h : List.ofFn v = [v 0, v 1, v 2, v 3, v 4, v 5, v 6, v 7, v 8, v 9, v 10] := rfl
  simp only [top, h, List.foldl_cons, List.foldl_nil]

/-- The unnormalized next state is the sum of the three greatest proofs, where the first two are above the floor. -/
theorem unnorm_apply (t : Fin 16) (b : Fin 4096) (h0 : floor ≤ slab cs nd pk st t b 0) (h1 : floor ≤ slab cs nd pk st t b 1) :
    unnorm cs nd pk st (ix2 t b) = sum3 cs nd pk st t b := by
  have h7 : k0_pay28 cs nd pk st (ix2 t b) = slab cs nd pk st t b 7 := by
    rw [← group_apply cs nd pk st t b 7 112 rfl (by omega)]
    pointwise [k0_pay28]
  unfold unnorm sum3
  rw [finished, carried, h7, group_apply cs nd pk st t b 8 128 rfl, group_apply cs nd pk st t b 9 144 rfl, group_apply cs nd pk st t b 10 160 rfl,
    ← push_two h0 h1, top_chain]

/-- The kernel's normalized next state. -/
abbrev next : FVec Ideal S16x4096 .f32 :=
  k0_pay30 (k0_pay2 cs nd pk st) (k0_pay24 cs nd pk st) (k0_pay26 cs nd pk st) (k0_pay27 cs nd pk st) (k0_pay28 cs nd pk st)

/-- The normalized next state is the unnormalized one over its sum along the states, plus a small constant. -/
theorem next_apply (t : Fin 16) (b : Fin 4096) : next cs nd pk st (ix2 t b)
    = Ideal.div (unnorm cs nd pk st (ix2 t b)) ((∑ t' : Fin 16, unnorm cs nd pk st (ix2 t' b)) + Ideal.ofBits .f32 0x322BCC77#32) := by
  pointwise [next, k0_pay30]

/-- The word that tells whether two coordinates agree. -/
theorem eye_word : ∀ i j : Fin 16, BitVec.setWidth 32 (IntOp.cmpi CmpIPredicate.eq (IntOp.addi (BitVec.ofNat 32 i.val) 0#32) (BitVec.ofNat 32 j.val))
    = if i = j then 1#32 else 0#32 := by decide

/-- The identity matrix that the kernel multiplies by. -/
theorem eye_apply (i j : Fin 16) : k0_pay31 (F := Ideal) (ix2 i j) = if i = j then 1 else 0 := by
  pointwise [k0_pay31]
  rw [eye_word]
  split
  · show (((1#32 : BitVec 32).toInt : ℝ) : EReal) = 1
    rw [show (1#32 : BitVec 32).toInt = 1 from by decide]; norm_num
  · show (((0#32 : BitVec 32).toInt : ℝ) : EReal) = 0
    rw [show (0#32 : BitVec 32).toInt = 0 from by decide]; norm_num

/-- A product with the identity matrix, contracted over the states, turns the block around. -/
theorem turned (x : FVec Ideal S16x4096 .f32) (b : Fin 4096) (t : Fin 16) :
    matmul dot_S16x4096_S16x16_S4096x16_0_0_1_1_n_n none x (k0_pay31 (F := Ideal)) (constant S4096x16 .f32 0x00000000#32) (ix2 b t)
      = x (ix2 t b) := by
  pointwise [dot_S16x4096_S16x16_S4096x16_0_0_1_1_n_n]
  simp only [eye_apply, mul_ite, mul_one, mul_zero, Finset.sum_ite_eq', Finset.mem_univ, if_true]

/-- What the kernel stores as the next state. -/
theorem stored_next (b : Fin 4096) (t : Fin 16) :
    k0_pay33 (k0_pay2 cs nd pk st) (k0_pay24 cs nd pk st) (k0_pay26 cs nd pk st) (k0_pay27 cs nd pk st) (k0_pay28 cs nd pk st) (ix2 b t)
      = next cs nd pk st (ix2 t b) := turned ..

/-- What the kernel stores as the next state's logarithm. -/
theorem stored_log (b : Fin 4096) (t : Fin 16) :
    k0_pay32 (k0_pay2 cs nd pk st) (k0_pay24 cs nd pk st) (k0_pay26 cs nd pk st) (k0_pay27 cs nd pk st) (k0_pay28 cs nd pk st) (ix2 b t)
      = Ideal.log (next cs nd pk st (ix2 t b) + Ideal.ofBits .f32 0x322BCC77#32) := (turned ..).trans rfl

/-- What the kernel stores as the weight of acceptance. -/
theorem stored_accept (b : Fin 4096) :
    k0_pay1 (k0_pay34 (k0_pay2 cs nd pk st) (k0_pay24 cs nd pk st) (k0_pay26 cs nd pk st) (k0_pay27 cs nd pk st) (k0_pay28 cs nd pk st)) (ix2 0 b)
      = unnorm cs nd pk st (ix2 15 b) := by
  pointwise [k0_pay1, k0_pay34]

end Cert.KernelBlock

end
-- ==== Proof.KernelArray.lean ====
/- What the kernel's three output arrays hold after the run, in terms of the whole arrays it reads. -/
module

public import proofs.«01_k».proof.Proof.KernelBlock
public import proofs.«01_k».proof.Proof.Gen.KernelIdeal.Frame
public import Idealize.ShloMosaic.Lib.Pipeline.ValueKit

@[expose] public section

set_option maxRecDepth 16384

noncomputable section

namespace Cert.KernelArray

open Idealize.ShloMosaic Idealize.ShloMosaic.TcCoe Idealize.SL.Sem Idealize.ShloMosaic.Tactic Cert.KernelIdeal Cert.KernelIdeal.Gen Cert.KernelBlock

variable (m : (ℓ : Loc nD τ sig) → Buf (Elt Ideal) ℓ) (c : Dev nD)

/-- The kernel's table of the propositions that a proof needs. -/
def needs : S176x16.Idx → EReal := fun i => Ideal.ofBits .f32 (lit0 (S176x16.rowMajor i))
/-- The kernel's table of the states that a proof starts from. -/
def picks : S176x16.Idx → EReal := fun i => Ideal.ofBits .f32 (lit1 (S176x16.rowMajor i))
/-- The launch's array of constraints. -/
abbrev cons : S16384x16.Idx → EReal := m ((c.tc : Thread nD τ).loc main_arg2)
/-- The launch's array of states. -/
abbrev states : S16384x16.Idx → EReal := m ((c.tc : Thread nD τ).loc main_arg1)

/-- The array row that row `b` of block `t` is. -/
abbrev row (t : Fin cfg0.N) (b : Fin 4096) : Fin 16384 := ⟨t.val * 4096 + b.val, by have h : t.val < 4 := t.isLt; omega⟩

/-- Where the blocks of the seven windows lie. -/
theorem idx (t : Fin cfg0.N) : win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, t.val] := by
  revert t
  decide +kernel

/-- A block of the constraints. -/
theorem read_cons (t : Fin cfg0.N) (b : Fin 4096) (p : Fin 16) : iblk m c 0 t (ix2 b p) = cons m c (ix2 (row t b) p) := by
  blk_ext [iblk, V, idx t]

/-- A block of the states. -/
theorem read_states (t : Fin cfg0.N) (b : Fin 4096) (s : Fin 16) : iblk m c 1 t (ix2 b s) = states m c (ix2 (row t b) s) := by
  blk_ext [iblk, V, idx t]

/-- Every block of the first table is the table. -/
theorem read_needs (t : Fin cfg0.N) (r : Fin 176) (p : Fin 16) : iblk m c 2 t (ix2 r p) = needs (ix2 r p) := by
  have h : V m c main_cst = needs := by
    show StableHlo.after hostOps0 (fun b => m (c, b)) (Proc.devRef .tc main_cst) = _
    unfold hostOps0
    after_results
    rfl
  have : iblk m c 2 t (ix2 r p) = V m c main_cst (ix2 r p) := by blk_ext [iblk, idx t]
  rw [this, h]

/-- Every block of the second table is the table. -/
theorem read_picks (t : Fin cfg0.N) (r : Fin 176) (s : Fin 16) : iblk m c 3 t (ix2 r s) = picks (ix2 r s) := by
  have h : V m c main_cst_0 = picks := by
    show StableHlo.after hostOps0 (fun b => m (c, b)) (Proc.devRef .tc main_cst_0) = _
    unfold hostOps0
    after_results
    rfl
  have : iblk m c 3 t (ix2 r s) = V m c main_cst_0 (ix2 r s) := by blk_ext [iblk, idx t]
  rw [this, h]

/-- The proofs of a block's row are those of the array's row. -/
theorem slab_block (t : Fin cfg0.N) (b : Fin 4096) (s : Fin 16) :
    slab (iblk m c 0 t) (iblk m c 2 t) (iblk m c 3 t) (iblk m c 1 t) s b = slab (cons m c) needs picks (states m c) s (row t b) := by
  funext j
  simp only [slab, proofAt, read_cons, read_states, read_needs, read_picks]

section
variable (cs st : Vec Ideal S4096x16 .f32) (nd pk : Vec Ideal S176x16 .f32)

/-- What the body leaves in a block of the first output. -/
theorem out_log (b : Fin 4096) (s : Fin 16) :
    out0_4 cs st nd pk (ix2 b s) = Ideal.log (next cs nd pk st (ix2 s b) + Ideal.ofBits .f32 0x322BCC77#32) := by
  have h : out0_4 cs st nd pk = k0_pay32 (k0_pay2 cs nd pk st) (k0_pay24 cs nd pk st) (k0_pay26 cs nd pk st) (k0_pay27 cs nd pk st) (k0_pay28 cs nd pk st) := by
    unfold_out out0_4
    frame_out
  rw [h, stored_log]

/-- What the body leaves in a block of the second output. -/
theorem out_next (b : Fin 4096) (s : Fin 16) : out0_5 cs st nd pk (ix2 b s) = next cs nd pk st (ix2 s b) := by
  have h : out0_5 cs st nd pk = k0_pay33 (k0_pay2 cs nd pk st) (k0_pay24 cs nd pk st) (k0_pay26 cs nd pk st) (k0_pay27 cs nd pk st) (k0_pay28 cs nd pk st) := by
    unfold_out out0_5
    frame_out
  rw [h, stored_next]

/-- What the body leaves in a block of the third output. -/
theorem out_accept (b : Fin 4096) : out0_6 cs st nd pk (ix2 0 b) = unnorm cs nd pk st (ix2 15 b) := by
  have h : out0_6 cs st nd pk = k0_pay1 (k0_pay34 (k0_pay2 cs nd pk st) (k0_pay24 cs nd pk st) (k0_pay26 cs nd pk st) (k0_pay27 cs nd pk st) (k0_pay28 cs nd pk st)) := by
    unfold_out out0_6
    frame_out
  rw [h, stored_accept]

end

variable (hfl : ∀ s b j, floor ≤ slab (cons m c) needs picks (states m c) s b j)
include hfl

/-- The unnormalized next state of a block's row. -/
theorem unnorm_block (t : Fin cfg0.N) (b : Fin 4096) (s : Fin 16) :
    unnorm (iblk m c 0 t) (iblk m c 2 t) (iblk m c 3 t) (iblk m c 1 t) (ix2 s b)
      = sum3 (cons m c) needs picks (states m c) s (row t b) := by
  rw [unnorm_apply _ _ _ _ _ _ (by rw [slab_block]; exact hfl ..) (by rw [slab_block]; exact hfl ..)]
  simp only [sum3, slab_block]

/-- The normalized next state of a block's row. -/
theorem next_block (t : Fin cfg0.N) (b : Fin 4096) (s : Fin 16) :
    next (iblk m c 0 t) (iblk m c 2 t) (iblk m c 3 t) (iblk m c 1 t) (ix2 s b)
      = nextAt (cons m c) needs picks (states m c) s (row t b) := by
  rw [next_apply]
  simp only [unnorm_block m c hfl, nextAt]

/-- The first output array: the logarithm of the normalized next state. -/
theorem array_log : (dats m 0 c).arrAt 4 cfg0.N = fun i : S16384x16.Idx => logAt (cons m c) needs picks (states m c) (i 1) (i 0) := by
  refine (dats m 0 c).arrAt_eq_of_covers 4 _ (by decide +kernel) fun t hf y => ?_
  blk_simp
  rw [after0_4]
  obtain ⟨b, s, rfl⟩ : ∃ (b : Fin 4096) (s : Fin 16), y = ix2 b s := ⟨y 0, y 1, by funext a; fin_cases a <;> rfl⟩
  have e : ((View.whole main_v0_0).slice (win0_4.rect t)).emb (ix2 b s) = ix2 (row t b) s := by blk_ext [idx t]
  rw [e]
  refine (out_log _ _ _ _ b s).trans ?_
  exact congrArg (fun x => Ideal.log (x + Ideal.ofBits .f32 0x322BCC77#32)) (next_block m c hfl t b s)

/-- The second output array: the normalized next state. -/
theorem array_next : (dats m 0 c).arrAt 5 cfg0.N = fun i : S16384x16.Idx => nextAt (cons m c) needs picks (states m c) (i 1) (i 0) := by
  refine (dats m 0 c).arrAt_eq_of_covers 5 _ (by decide +kernel) fun t hf y => ?_
  blk_simp
  rw [after0_5]
  obtain ⟨b, s, rfl⟩ : ∃ (b : Fin 4096) (s : Fin 16), y = ix2 b s := ⟨y 0, y 1, by funext a; fin_cases a <;> rfl⟩
  have e : ((View.whole main_v0_1).slice (win0_5.rect t)).emb (ix2 b s) = ix2 (row t b) s := by blk_ext [idx t]
  rw [e]
  exact (out_next _ _ _ _ b s).trans (next_block m c hfl t b s)

/-- The third output array: the unnormalized weight of the accepting state. -/
theorem array_accept : (dats m 0 c).arrAt 6 cfg0.N = fun i : S1x16384.Idx => sum3 (cons m c) needs picks (states m c) 15 (i 1) := by
  refine (dats m 0 c).arrAt_eq_of_covers 6 _ (by decide +kernel) fun t hf y => ?_
  blk_simp
  rw [after0_6]
  obtain ⟨b, rfl⟩ : ∃ b : Fin 4096, y = ix2 0 b :=
    ⟨y 1, by funext a; fin_cases a; exacts [Subsingleton.elim (α := Fin 1) _ _, rfl]⟩
  have e : ((View.whole main_v0_2).slice (win0_6.rect t)).emb (ix2 0 b) = ix2 0 (row t b) := by blk_ext [idx t]
  rw [e]
  exact (out_accept _ _ _ _ b).trans (unnorm_block m c hfl t b 15)

omit hfl in
/-- The reshaped third output, read at a row. -/
theorem reshaped (x : S1x16384.Idx → EReal) (b : Fin 16384) : shapeCast S16384 x shapeCasts_S1x16384_S16384 (ix1 b) = x (ix2 0 b) := by
  pointwise

/-- The third result: the third output array with its unit axis dropped. -/
theorem result_accept : Pipeline.afterTail₀ cfgs (dats m) 0 (V0 m) [hostOps1] c main_v1
    = fun i : S16384.Idx => sum3 (cons m c) needs picks (states m c) 15 (i 0) := by
  unfold Pipeline.afterTail₀
  show StableHlo.after hostOps1 _ (Proc.devRef .tc main_v1) = _
  unfold hostOps1
  after_results
  have h := Pipeline.withArrays_arr (cfgs 0).spec (by decide) c (V0 m c) (fun w => (dats m 0 c).arrAt w (cfgs 0).N) 6
  funext i
  obtain ⟨b, rfl⟩ : ∃ b : Fin 16384, i = ix1 b := ⟨i 0, by funext a; fin_cases a; rfl⟩
  refine (reshaped _ b).trans ?_
  exact (congrFun (h.trans (array_accept m c hfl)) (ix2 0 b)).trans rfl

omit hfl in
/-- Every run of the kernel ends with the three results above, and with its arguments unchanged. -/
theorem run (ρ : Dev nD → PrngReg) (hfl : ∀ c s b j, floor ≤ slab (cons m c) needs picks (states m c) s b j) :
    θ_run defs (onTc (τ := τ) (main (F := Ideal))) ⟨m, fun _ => 0, ρ⟩ fun r => ∀ c : Dev nD,
      r.2.mem ((c.tc : Thread nD τ).loc main_v0_0) = (fun i : S16384x16.Idx => logAt (cons m c) needs picks (states m c) (i 1) (i 0))
      ∧ r.2.mem ((c.tc : Thread nD τ).loc main_v0_1) = (fun i : S16384x16.Idx => nextAt (cons m c) needs picks (states m c) (i 1) (i 0))
      ∧ r.2.mem ((c.tc : Thread nD τ).loc main_v1) = (fun i : S16384.Idx => sum3 (cons m c) needs picks (states m c) 15 (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from run_main m ρ
  · exact array_log m c (hfl c)
  · exact array_next m c (hfl c)
  · exact result_accept m c (hfl c)
  · exact W_main_arg0 m (dats m) c

end Cert.KernelArray

end
-- ==== Proof.RefValue.lean ====
/- What the reference computes, entry by entry, over the extended reals. -/
module

public import proofs.«01_k».proof.Proof.TopThree
public import proofs.«01_k».proof.Proof.Gen.ReferenceIdeal.Run
public import Idealize.ShloMosaic.Lib.Pointwise

@[expose] public section

set_option maxRecDepth 16384

noncomputable section

namespace Cert.RefValue

open Idealize.ShloMosaic Idealize.ShloMosaic.TcCoe Idealize.SL.Sem Cert.ReferenceIdeal Cert.ReferenceIdeal.Gen Cert.TopThree

variable (cs st : S16384x16.Idx → EReal)

/-- Whether there is a transition from `s` into `t`, as a number. -/
def edges : S16x16.Idx → EReal := fun i => Ideal.ofBits .f32 (lit0 (S16x16.rowMajor i))
/-- Whether the transition from `s` into `t` needs proposition `p`, as a number. -/
def guards : S16x16x16.Idx → EReal := fun i => Ideal.ofBits .f32 (lit1 (S16x16x16.rowMajor i))

/-- The weight that state `s` sends into state `t`, in row `b`. -/
def weight (b : Fin 16384) (t s : Fin 16) : EReal :=
  st (ix2 b s) * (Ideal.exp (∑ p : Fin 16, Ideal.log (cs (ix2 b p) + Ideal.ofBits .f32 0x2B8CBCCC#32) * guards (ix3 s t p)) * edges (ix2 s t))

/-- The reference's array of weights. -/
abbrev weights : FVec Ideal S16384x16x16 .f32 :=
  transpose S16384x16x16 [0, 2, 1] (mulf (broadcastInDim S16384x16x16 ![0, 1, 2] bcast_S16384x16x1_S16384x16x16_0_1_2 (broadcastInDim S16384x16x1 ![0, 1] bcast_S16384x16_S16384x16x1_0_1 st)) (mulf (Host.exp (Host.dotGeneral dot_S16384x16_S16x16x16_S16384x16x16_1_2_0_01_n_n none (Host.log (addf cs (broadcastInDim S16384x16 ![] bcast_S_S16384x16 (constant S_ .f32 0x2B8CBCCC#32)))) (φ₂ := .f32) guards)) (broadcastInDim S16384x16x16 ![0, 1, 2] bcast_S1x16x16_S16384x16x16_0_1_2 (broadcastInDim S1x16x16 ![1, 2] bcast_S16x16_S1x16x16_1_2 edges)))) transposes_S16384x16x16_S16384x16x16_0_2_1

/-- Its entries are the weights. -/
theorem weights_apply (b : Fin 16384) (t s : Fin 16) : weights cs st (ix3 b t s) = weight cs st b t s := by
  unfold weight weights
  pointwise [dot_S16384x16_S16x16x16_S16384x16x16_1_2_0_01_n_n]

/-- A two-operand sort's first result, read at an index. -/
theorem sort_first {s : Shape} {d : Nat} (hd : d < s.rank) {α β : Type} (cmp : α × β → α × β → BitVec 1) (x : s.Idx → α) (y : s.Idx → β)
    (j : s.Idx) : (Host.sort2 s d cmp x y).1 j = x (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The descending sort of an array of extended reals along an axis, read at an index. -/
theorem sort_down {s : Shape} (a : Fin s.rank) {β : Type} (x : s.Idx → EReal) (y : s.Idx → β) (j : s.Idx)
    (f : Fin (s.size a) → EReal) (hf : ∀ k, x (j.along a k) = f k) :
    (Host.sort2 s a.val (fun l r => Ideal.cmpTotal .gt l.1 r.1) x y).1 j = sorted f (j a) := by
  rw [sort_first a.isLt]
  simp only [hf]
  rfl

/-- The three greatest of the weights into a state, greatest first. -/
theorem top_apply (x : FVec Ideal S16384x16x16 .f32) (b : Fin 16384) (t : Fin 16) (k : Fin 3) :
    (Host.topK S16384x16x3 2 (FloatOps.cmpfTotal .gt) x sliceFits_S16384x16x16_S16384x16x3).1 (ix3 b t k)
      = sorted (fun s => x (ix3 b t s)) (k.castLE (by omega)) := by
  unfold Host.topK
  pointwise
  have e : ∀ s : Fin 16, Shape.Idx.along (s := S16384x16x16) (ix3 b t (⟨k.val, by omega⟩ : Fin 16)) 2 s = ix3 b t s := fun s => by
    funext a; fin_cases a <;> rfl
  exact sort_down (s := S16384x16x16) 2 x (fun i => BitVec.ofNat 32 (i 2).val)
    (ix3 b t ⟨k.val, by omega⟩) (fun s : Fin 16 => x (ix3 b t s)) fun s => congrArg x (e s)

/-- The three greatest of one state's weights, greatest first. -/
theorem top_row_apply (x : FVec Ideal S16384x16 .f32) (b : Fin 16384) (k : Fin 3) :
    (Host.topK S16384x3 1 (FloatOps.cmpfTotal .gt) x sliceFits_S16384x16_S16384x3).1 (ix2 b k)
      = sorted (fun s => x (ix2 b s)) (k.castLE (by omega)) := by
  unfold Host.topK
  pointwise
  have e : ∀ s : Fin 16, Shape.Idx.along (s := S16384x16) (ix2 b (⟨k.val, by omega⟩ : Fin 16)) 1 s = ix2 b s := fun s => by
    funext a; fin_cases a <;> rfl
  exact sort_down (s := S16384x16) 1 x (fun i => BitVec.ofNat 32 (i 1).val)
    (ix2 b ⟨k.val, by omega⟩) (fun s : Fin 16 => x (ix2 b s)) fun s => congrArg x (e s)

/-- The sum of the three greatest of sixteen values. -/
def best (x : Fin 16 → EReal) : EReal := sorted x 0 + sorted x 1 + sorted x 2

/-- The sum of the three greatest of the weights into a state. -/
theorem best_apply (x : FVec Ideal S16384x16x16 .f32) (b : Fin 16384) (t : Fin 16) :
    Host.reduceAdd (Host.topK S16384x16x3 2 (FloatOps.cmpfTotal .gt) x sliceFits_S16384x16x16_S16384x16x3).1
      (constant S_ .f32 0x00000000#32) reducesTo_S16384x16x3_S16384x16_d2 h_S_ (ix2 b t) = best (fun s => x (ix3 b t s)) := by
  generalize hy : (Host.topK S16384x16x3 2 (FloatOps.cmpfTotal .gt) x sliceFits_S16384x16x16_S16384x16x3).1 = y
  pointwise
  rw [Fin.sum_univ_three, ← hy]
  simp only [top_apply]
  rfl

/-- The sum of the three greatest of one state's weights. -/
theorem best_row_apply (x : FVec Ideal S16384x16 .f32) (b : Fin 16384) :
    Host.reduceAdd (Host.topK S16384x3 1 (FloatOps.cmpfTotal .gt) x sliceFits_S16384x16_S16384x3).1
      (constant S_ .f32 0x00000000#32) reducesTo_S16384x3_S16384_d1 h_S_ (ix1 b) = best (fun s => x (ix2 b s)) := by
  generalize hy : (Host.topK S16384x3 1 (FloatOps.cmpfTotal .gt) x sliceFits_S16384x16_S16384x3).1 = y
  pointwise
  rw [Fin.sum_univ_three, ← hy]
  simp only [top_row_apply]
  rfl

/-- The position that the reference takes along the states. -/
abbrev place : IVec S1x1 32 :=
  broadcastInDim S1x1 ![0] bcast_S1_S1x1_0 (select (cmpi .slt (constantI S1 32 15#32) (broadcastInDim S1 ![] bcast_S_S1 (constantI S_ 32 0#32))) (addi (constantI S1 32 15#32) (broadcastInDim S1 ![] bcast_S_S1 (constantI S_ 32 16#32))) (constantI S1 32 15#32))
/-- The test that this position is in range. -/
abbrev inRange : IVec S1 1 :=
  Host.reduce IntOp.andi (andi (cmpi .sge place (broadcastInDim S1x1 ![] bcast_S_S1x1 (constantI S_ 32 0#32))) (cmpi .sle place (broadcastInDim S1x1 ![1] bcast_S1_S1x1_1 (constantI S1 32 15#32)))) (constantI S_ 1 1#1) reducesTo_S1x1_S1_d1 h_S_

/-- The position is 15. -/
theorem place_apply (i : S1x1.Idx) : place i = 15#32 := by
  pointwise [place]
  rfl

/-- The position is in range. -/
theorem inRange_apply (i : S1.Idx) : inRange i = 1#1 := by
  have fold : ∀ {α : Type} [DecidableEq α] (u : Finset α), u.fold IntOp.andi 1#1 (fun _ => 1#1) = 1#1 := fun u => by
    induction u using Finset.induction_on with
    | empty => rfl
    | insert _ _ h ih => rw [Finset.fold_insert h, ih]; rfl
  unfold inRange
  pointwise [place_apply]
  exact fold _

/-- The take along the states reads the array at the position. -/
theorem gather_apply (x : FVec Ideal S16384x16x16 .f32) (i : IVec S1x1 32) (hi : ∀ j, i j = 15#32) (b : Fin 16384) (s : Fin 16) :
    Host.gather gather_S16384x16x16_S1x1_S16384x1x16_02_1_n_n_1_1_16384116 x i (ix3 b 0 s) = x (ix3 b 15 s) := by
  unfold Host.gather
  congr 1
  funext a
  refine Fin.ext ?_
  show GatherDims.start _ _ _ a + GatherDims.batchCoord _ _ a + GatherDims.offCoord _ _ a = _
  rw [GatherDims.batchCoord_eq_zero _ _ _ (List.not_mem_nil)]
  unfold GatherDims.start GatherDims.offCoord
  simp only [hi]
  fin_cases a
  · rw [dif_neg (by decide), dif_pos (by decide)]; exact Nat.zero_add _
  · rw [dif_pos (by decide), dif_neg (by decide)]; rfl
  · rw [dif_neg (by decide), dif_pos (by decide)]; exact Nat.zero_add _

/-- The weights into the accepting state, as the reference takes them. -/
abbrev taken (x : FVec Ideal S16384x16x16 .f32) : FVec Ideal S16384x16 .f32 :=
  shapeCast _ (select (broadcastInDim S16384x1x16 ![1] bcast_S1_S16384x1x16_1 inRange) (Host.gather gather_S16384x16x16_S1x1_S16384x1x16_02_1_n_n_1_1_16384116 x place) (broadcastInDim S16384x1x16 ![] bcast_S_S16384x1x16 (constant S_ .f32 0x7FC00000#32))) shapeCasts_S16384x1x16_S16384x16

/-- They are the weights into state 15. -/
theorem taken_apply (x : FVec Ideal S16384x16x16 .f32) (b : Fin 16384) (s : Fin 16) : taken x (ix2 b s) = x (ix3 b 15 s) := by
  unfold taken
  have h := gather_apply x place place_apply b s
  generalize Host.gather gather_S16384x16x16_S1x1_S16384x1x16_02_1_n_n_1_1_16384116 x place = y at h ⊢
  have hr := inRange_apply
  generalize inRange = z at hr ⊢
  pointwise [hr]
  exact h

/-- The reference's array of sums of the three greatest weights. -/
abbrev bests (x : FVec Ideal S16384x16x16 .f32) : FVec Ideal S16384x16 .f32 :=
  Host.reduceAdd (Host.topK S16384x16x3 2 (FloatOps.cmpfTotal .gt) x sliceFits_S16384x16x16_S16384x16x3).1
    (constant S_ .f32 0x00000000#32) reducesTo_S16384x16x3_S16384x16_d2 h_S_

/-- The normalization of an array along the states. -/
abbrev normed (y : FVec Ideal S16384x16 .f32) : FVec Ideal S16384x16 .f32 :=
  Host.divf y (broadcastInDim S16384x16 ![0, 1] bcast_S16384x1_S16384x16_0_1 (addf (broadcastInDim S16384x1 ![0] bcast_S16384_S16384x1_0 (Host.reduceAdd y (constant S_ .f32 0x00000000#32) reducesTo_S16384x16_S16384_d1 h_S_)) (broadcastInDim S16384x1 ![] bcast_S_S16384x1 (constant S_ .f32 0x322BCC77#32))))

/-- An entry over the sum of its row. -/
theorem normed_apply (y : FVec Ideal S16384x16 .f32) (b : Fin 16384) (t : Fin 16) :
    normed y (ix2 b t) = Ideal.div (y (ix2 b t)) ((∑ t' : Fin 16, y (ix2 b t')) + Ideal.ofBits .f32 0x322BCC77#32) := by
  pointwise [normed]

/-- The logarithm of an array. -/
abbrev logged (y : FVec Ideal S16384x16 .f32) : FVec Ideal S16384x16 .f32 :=
  Host.log (addf y (broadcastInDim S16384x16 ![] bcast_S_S16384x16 (constant S_ .f32 0x322BCC77#32)))

/-- The logarithm of an entry. -/
theorem logged_apply (y : FVec Ideal S16384x16 .f32) (b : Fin 16384) (t : Fin 16) :
    logged y (ix2 b t) = Ideal.log (y (ix2 b t) + Ideal.ofBits .f32 0x322BCC77#32) := by
  pointwise [logged]

/-- The reference's third result: the sum of the three greatest weights into the accepting state. -/
abbrev accepted (x : FVec Ideal S16384x16x16 .f32) : FVec Ideal S16384 .f32 :=
  Host.reduceAdd (Host.topK S16384x3 1 (FloatOps.cmpfTotal .gt) (taken x) sliceFits_S16384x16_S16384x3).1
    (constant S_ .f32 0x00000000#32) reducesTo_S16384x3_S16384_d1 h_S_

/-- It is the sum of the three greatest weights into state 15. -/
theorem accepted_apply (x : FVec Ideal S16384x16x16 .f32) (b : Fin 16384) : accepted x (ix1 b) = best (fun s => x (ix3 b 15 s)) := by
  rw [accepted, best_row_apply]
  simp only [taken_apply]

/-- Every run of the reference ends with these three results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = logged (normed (bests (weights (m ((c.tc : Thread nD τ).loc main_arg2)) (m ((c.tc : Thread nD τ).loc main_arg1)))))
      ∧ r.2.mem ((c.tc : Thread nD τ).loc main_v21)
        = normed (bests (weights (m ((c.tc : Thread nD τ).loc main_arg2)) (m ((c.tc : Thread nD τ).loc main_arg1))))
      ∧ r.2.mem ((c.tc : Thread nD τ).loc main_v15)
        = accepted (weights (m ((c.tc : Thread nD τ).loc main_arg2)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.RefValue

end
-- ==== Proof.Tables.lean ====
/- The two programs' tables of constants, related: the kernel's 176 rows hold, at row `16 j + t`, the `j`-th state with
   a transition into state `t`, or nothing. -/
module

public import proofs.«01_k».proof.KernelIdeal
public import proofs.«01_k».proof.ReferenceIdeal
public import Mathlib.Data.Fintype.EquivFin
public import Mathlib.Data.Fin.VecNotation

@[expose] public section

noncomputable section

namespace Cert.Tables

open Idealize.ShloMosaic

/-- Entry `t, j`: the states in the order in which state `t` meets them, those with a transition into `t` first. -/
def source (t j : Fin 16) : Fin 16 :=
  (![
    ![1, 3, 4, 5, 11, 12, 14, 15, 0, 2, 6, 7, 8, 9, 10, 13],
    ![0, 6, 7, 8, 15, 1, 2, 3, 4, 5, 9, 10, 11, 12, 13, 14],
    ![1, 2, 5, 9, 0, 3, 4, 6, 7, 8, 10, 11, 12, 13, 14, 15],
    ![2, 4, 6, 11, 13, 14, 15, 0, 1, 3, 5, 7, 8, 9, 10, 12],
    ![3, 8, 11, 12, 0, 1, 2, 4, 5, 6, 7, 9, 10, 13, 14, 15],
    ![3, 4, 5, 6, 8, 12, 13, 0, 1, 2, 7, 9, 10, 11, 14, 15],
    ![3, 5, 9, 10, 12, 13, 14, 0, 1, 2, 4, 6, 7, 8, 11, 15],
    ![3, 5, 6, 11, 14, 15, 0, 1, 2, 4, 7, 8, 9, 10, 12, 13],
    ![1, 6, 7, 9, 12, 13, 15, 0, 2, 3, 4, 5, 8, 10, 11, 14],
    ![3, 8, 10, 14, 0, 1, 2, 4, 5, 6, 7, 9, 11, 12, 13, 15],
    ![1, 5, 9, 14, 0, 2, 3, 4, 6, 7, 8, 10, 11, 12, 13, 15],
    ![2, 3, 4, 10, 12, 0, 1, 5, 6, 7, 8, 9, 11, 13, 14, 15],
    ![3, 4, 5, 6, 10, 11, 12, 0, 1, 2, 7, 8, 9, 13, 14, 15],
    ![3, 4, 10, 11, 12, 0, 1, 2, 5, 6, 7, 8, 9, 13, 14, 15],
    ![0, 1, 2, 4, 5, 7, 13, 14, 3, 6, 8, 9, 10, 11, 12, 15],
    ![0, 2, 3, 4, 5, 7, 9, 10, 11, 14, 15, 1, 6, 8, 12, 13]] : Fin 16 → Fin 16 → Fin 16) t j

/-- The word of 1. -/
abbrev one : BitVec 32 := 0x3F800000#32
/-- The word of 0. -/
abbrev zero : BitVec 32 := 0x00000000#32

/-- The word that says whether there is a transition from `s` into `t`. -/
abbrev edge (s t : Fin 16) : BitVec 32 := Cert.ReferenceIdeal.lit0 ⟨s.val * 16 + t.val, by omega⟩
/-- The word that says whether the transition from `s` into `t` needs proposition `p`. -/
abbrev guard (s t p : Fin 16) : BitVec 32 := Cert.ReferenceIdeal.lit1 ⟨(s.val * 16 + t.val) * 16 + p.val, by omega⟩
/-- The kernel's word for proposition `p` in row `16 j + t`. -/
abbrev need (j : Fin 11) (t p : Fin 16) : BitVec 32 := Cert.KernelIdeal.lit0 ⟨(j.val * 16 + t.val) * 16 + p.val, by omega⟩
/-- The kernel's word for state `s` in row `16 j + t`. -/
abbrev pick (j : Fin 11) (t s : Fin 16) : BitVec 32 := Cert.KernelIdeal.lit1 ⟨(j.val * 16 + t.val) * 16 + s.val, by omega⟩

/-- What row `16 j + t` of the kernel's tables holds: the `j`-th source of `t` and its guard, or no source. -/
def RowHolds (j : Fin 11) (t : Fin 16) : Prop :=
  let s := source t ⟨j.val, by omega⟩
  (edge s t = one ∧ (∀ p, need j t p = guard s t p) ∧ ∀ s', pick j t s' = if s' = s then one else zero)
    ∨ (edge s t = zero ∧ ∀ s', pick j t s' = zero)

/-- It can be checked by evaluation. -/
instance (j : Fin 11) (t : Fin 16) : Decidable (RowHolds j t) := by unfold RowHolds; infer_instance

/-- The states met are all different. -/
theorem source_injective : ∀ t, Function.Injective (source t) := by decide +kernel

/-- The order in which state `t` meets the states, as a rearrangement of them. -/
def order (t : Fin 16) : Equiv.Perm (Fin 16) :=
  Equiv.ofBijective (source t) (Finite.injective_iff_bijective.mp (source_injective t))

/-- Every row of the kernel's tables holds what it should. -/
theorem rowHolds : ∀ j t, RowHolds j t := by decide +kernel

/-- There is no transition from a state met after the eleventh. -/
theorem edge_late : ∀ t j : Fin 16, 11 ≤ j.val → edge (source t j) t = zero := by decide +kernel

end Cert.Tables

end
-- ==== Proof.Equation.lean ====
/- The equation between the two programs: where no state is negative, the kernel's eleven proofs of a state have the same
   three greatest values, in sum, as the reference's sixteen weights into it. -/
module

public import proofs.«01_k».proof.Proof.Tables
public import proofs.«01_k».proof.Proof.KernelArray
public import proofs.«01_k».proof.Proof.RefValue
public import proofs.«01_k».proof.Proof.Gen.Pre_s0_nonneg
public import Idealize.ShloMosaic.Lib.IdealHost

@[expose] public section

set_option maxRecDepth 16384

noncomputable section

namespace Cert.Equation

open Idealize.ShloMosaic Cert.TopThree Cert.Tables Cert.KernelBlock Cert.KernelArray Cert.RefValue

/-- The kernel's first table at row `16 j + t`, as a number. -/
theorem needs_apply (j : Fin 11) (t p : Fin 16) (h : j.val * 16 + t.val < 176) : needs (ix2 ⟨j.val * 16 + t.val, h⟩ p) = Ideal.ofBits .f32 (need j t p) :=
  congrArg (fun i => Ideal.ofBits .f32 (Cert.KernelIdeal.lit0 i)) (Fin.ext (Shape.rowMajor_val_two _))
/-- The kernel's second table at row `16 j + t`, as a number. -/
theorem picks_apply (j : Fin 11) (t s : Fin 16) (h : j.val * 16 + t.val < 176) : picks (ix2 ⟨j.val * 16 + t.val, h⟩ s) = Ideal.ofBits .f32 (pick j t s) :=
  congrArg (fun i => Ideal.ofBits .f32 (Cert.KernelIdeal.lit1 i)) (Fin.ext (Shape.rowMajor_val_two _))
/-- The reference's first table at an entry, as a number. -/
theorem edges_apply (s t : Fin 16) : edges (ix2 s t) = Ideal.ofBits .f32 (edge s t) :=
  congrArg (fun i => Ideal.ofBits .f32 (Cert.ReferenceIdeal.lit0 i)) (Fin.ext (Shape.rowMajor_val_two _))
/-- The reference's second table at an entry, as a number. -/
theorem guards_apply (s t p : Fin 16) : guards (ix3 s t p) = Ideal.ofBits .f32 (guard s t p) :=
  congrArg (fun i => Ideal.ofBits .f32 (Cert.ReferenceIdeal.lit1 i)) (Fin.ext (Shape.rowMajor_val_three _))

/-- The kernel's floor is not above zero. -/
theorem floor_le : KernelBlock.floor ≤ 0 := by
  unfold KernelBlock.floor
  simp [Ideal.ofBits, Ideal.ieee]
  exact mul_nonneg (EReal.coe_nonneg.mpr (by norm_num)) (EReal.coe_nonneg.mpr (by norm_num))

/-- An exponential is not negative. -/
theorem exp_nonneg (x : EReal) : 0 ≤ Ideal.exp x := by
  induction x with
  | bot => exact le_refl (0 : EReal)
  | top => exact le_top (a := (0 : EReal))
  | coe r => exact EReal.coe_nonneg.mpr (Real.exp_pos r).le

/-- One proof and one weight, from the words of the tables. -/
theorem row_eq (w x : Fin 16 → EReal) (nd gd pk : Fin 16 → BitVec 32) (e : BitVec 32) (src : Fin 16)
    (h : (e = one ∧ (∀ p, nd p = gd p) ∧ ∀ s, pk s = if s = src then one else zero) ∨ (e = zero ∧ ∀ s, pk s = zero)) :
    Ideal.exp (∑ p, Ideal.ofBits .f32 (nd p) * w p) * ∑ s, Ideal.ofBits .f32 (pk s) * x s
      = x src * (Ideal.exp (∑ p, w p * Ideal.ofBits .f32 (gd p)) * Ideal.ofBits .f32 e) := by
  rcases h with ⟨he, hn, hp⟩ | ⟨he, hp⟩
  · simp only [he, hn, hp, apply_ite (Ideal.ofBits .f32), one, zero, Ideal.ofBits_one_f32, Ideal.ofBits_zero_f32, ite_mul, one_mul, zero_mul,
      Finset.sum_ite_eq', Finset.mem_univ, if_true, mul_one]
    rw [mul_comm]
    exact congrArg (fun z => x src * Ideal.exp z) (Finset.sum_congr rfl fun p _ => mul_comm _ _)
  · simp only [he, hp, zero, Ideal.ofBits_zero_f32, zero_mul, Finset.sum_const_zero, mul_zero]

variable (cs st : (⟨2, ![16384, 16]⟩ : Shape).Idx → EReal)

/-- The `j`-th proof of a state is the weight that its `j`-th source sends. -/
theorem slab_eq (b : Fin 16384) (t : Fin 16) (j : Fin 11) :
    slab cs needs picks st t b j = weight cs st b t (source t ⟨j.val, by omega⟩) := by
  unfold slab proofAt weight
  simp only [needs_apply, picks_apply, edges_apply, guards_apply]
  exact row_eq _ (fun s => st (ix2 b s)) _ _ _ _ _ (rowHolds j t)

/-- A state met after the eleventh sends nothing. -/
theorem weight_late (b : Fin 16384) (t j : Fin 16) (h : 11 ≤ j.val) : weight cs st b t (source t j) = 0 := by
  unfold weight
  rw [edges_apply, edge_late t j h]
  simp only [zero, Ideal.ofBits_zero_f32, mul_zero]

variable (hst : ∀ i, 0 ≤ st i)
include hst

/-- A proof is not negative. -/
theorem slab_nonneg (b : Fin 16384) (t : Fin 16) (j : Fin 11) : 0 ≤ slab cs needs picks st t b j := by
  unfold slab proofAt
  refine mul_nonneg (exp_nonneg _) (Finset.sum_nonneg fun s _ => mul_nonneg ?_ (hst _))
  rw [picks_apply]
  rcases rowHolds j t with ⟨_, _, hp⟩ | ⟨_, hp⟩
  · rw [hp]
    split
    · simp only [one, Ideal.ofBits_one_f32]; exact zero_le_one
    · simp only [zero, Ideal.ofBits_zero_f32]; exact le_refl _
  · rw [hp]; simp only [zero, Ideal.ofBits_zero_f32]; exact le_refl _

/-- The kernel's sum of the three greatest proofs of a state is the reference's sum of the three greatest weights into it. -/
theorem sum3_eq (b : Fin 16384) (t : Fin 16) : sum3 cs needs picks st t b = best (fun s => weights cs st (ix3 b t s)) := by
  simp only [weights_apply]
  unfold sum3
  rw [top_eleven floor_le (weight cs st b t) _ (slab_nonneg cs st hst b t) (order t) fun j => ?_]
  · rfl
  · show weight cs st b t (source t j) = _
    split
    · rw [slab_eq]
    · exact weight_late cs st b t j (by omega)

/-- The normalized next states agree. -/
theorem next_eq : normed (bests (weights cs st)) = fun i => nextAt cs needs picks st (i 1) (i 0) := by
  funext i
  obtain ⟨b, t, rfl⟩ : ∃ (b : Fin 16384) (t : Fin 16), i = ix2 b t := ⟨i 0, i 1, by funext a; fin_cases a <;> rfl⟩
  rw [normed_apply]
  simp only [bests, best_apply, ← sum3_eq cs st hst]
  rfl

/-- Their logarithms agree. -/
theorem log_eq : logged (normed (bests (weights cs st))) = fun i => logAt cs needs picks st (i 1) (i 0) := by
  rw [next_eq cs st hst]
  funext i
  obtain ⟨b, t, rfl⟩ : ∃ (b : Fin 16384) (t : Fin 16), i = ix2 b t := ⟨i 0, i 1, by funext a; fin_cases a <;> rfl⟩
  exact logged_apply _ b t

/-- The weights of acceptance agree. -/
theorem accept_eq : accepted (weights cs st) = fun i => sum3 cs needs picks st 15 (i 0) := by
  funext i
  obtain ⟨b, rfl⟩ : ∃ b : Fin 16384, i = ix1 b := ⟨i 0, by funext a; fin_cases a; rfl⟩
  rw [accepted_apply]
  exact (sum3_eq cs st hst b 15).symm

omit hst in
/-- The precondition, decoded: no entry of the launch's array of states is negative. -/
theorem states_nonneg (a b c : FVec Ideal Cert.Pre_s0_nonneg.S16384x16 .f32) (h : Cert.Pre_s0_nonneg.fn a b c = fun _ => 1#1)
    (i : Cert.Pre_s0_nonneg.S16384x16.Idx) : 0 ≤ b i := by
  have h := congrFun h i
  unfold Cert.Pre_s0_nonneg.fn at h
  pointwise at h
  by_contra hn
  simp [hn] at h

end Cert.Equation

end
-- ==== Proof.lean ====
/- The claims of the certificate, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_s0_nonneg
public import proofs.«01_k».proof.Proof.KernelArray
public import proofs.«01_k».proof.Proof.RefValue
public import proofs.«01_k».proof.Proof.Equation
public import Idealize.ShloMosaic.Lib.Claim
public import Idealize.ShloMosaic.Lib.Quiescent

@[expose] public section

noncomputable section

namespace Cert.Proof

open Idealize.ShloMosaic Idealize.SL.Sem

/-- Where no entry of the launch's array of states is negative, the two programs end with the same three results. -/
theorem same_results : Cert.algebraic_KernelIdeal_ReferenceIdeal_pre_s0_nonneg (hKernelIdeal := Cert.KernelIdeal.Gen.facts)
    (hReferenceIdeal := Cert.ReferenceIdeal.Gen.facts) (hPre_s0_nonneg := Cert.Pre_s0_nonneg.Gen.facts) := by
  intro m ρ m' ρ' hpre hag
  have hst : ∀ c i, 0 ≤ Cert.KernelArray.states m c i := fun c => Cert.Equation.states_nonneg _ _ _ (hpre c)
  refine ⟨_, _, _, Cert.KernelArray.run m ρ fun c s b j =>
    Cert.Equation.floor_le.trans (Cert.Equation.slab_nonneg _ _ (hst c) b s j), ?_⟩
  refine (θ_run _ _ _).mono (fun r h c => ?_) (Cert.RefValue.run m' ρ')
  obtain ⟨h0, h1, h2, ha⟩ := h c
  rw [(hag c).2.1, (hag c).2.2] at h0 h1 h2
  exact ⟨h0.trans (Cert.Equation.log_eq _ _ (hst c)), h1.trans (Cert.Equation.next_eq _ _ (hst c)),
    h2.trans (Cert.Equation.accept_eq _ _ (hst c)), ha⟩

/-- Every claim of the certificate. -/
theorem claim : Cert.Claim := by
  refine ⟨Cert.Kernel.Gen.facts, Cert.KernelIdeal.Gen.facts, Cert.ReferenceIdeal.Gen.facts, Cert.Pre_s0_nonneg.Gen.facts,
    fun m ρ _ => Cert.Kernel.Gen.frame m ρ, fun m ρ _ => Cert.KernelIdeal.Gen.frame m ρ, fun m ρ _ => Cert.KernelIdeal.Gen.frame m ρ,
    fun m ρ _ => ?_, fun m ρ _ => ?_, trivial, ?_⟩
  · exact (θ_run _ _ _).mono (fun r h => ⟨fun c => (h c).2.2.2, sem_eq_zero_of_no_sems (by decide) r.2⟩) (Cert.ReferenceIdeal.Value.run m ρ)
  · exact (θ_run _ _ _).mono (fun r h => ⟨fun c => (h c).2.2.2, sem_eq_zero_of_no_sems (by decide) r.2⟩) (Cert.ReferenceIdeal.Value.run m ρ)
  · exact same_results

end Cert.Proof

end
